-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S4096x1024 : Shape := ⟨2, ![4096, 1024]⟩
abbrev S1024x1024 : Shape := ⟨2, ![1024, 1024]⟩
abbrev S_ : Shape := ⟨0, ![]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .i32⟩
  | .hbm, ⟨3, _⟩ => ⟨S_, .f32⟩
  | .hbm, ⟨4, _⟩ => ⟨S_, .i32⟩
  | .hbm, ⟨5, _⟩ => ⟨S1024, .f32⟩
  | .hbm, ⟨6, _⟩ => ⟨S1024, .i32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S1024x1, .i32⟩
  | .hbm, ⟨15, _⟩ => ⟨S1, .i32⟩
  | .hbm, ⟨16, _⟩ => ⟨S_, .i32⟩
  | .hbm, ⟨17, _⟩ => ⟨S1024x1, .i32⟩
  | .hbm, ⟨18, _⟩ => ⟨S1024x1, .i1⟩
  | .hbm, ⟨19, _⟩ => ⟨S1x1, .i32⟩
  | .hbm, ⟨20, _⟩ => ⟨S1024x1, .i32⟩
  | .hbm, ⟨21, _⟩ => ⟨S1024x1, .i1⟩
  | .hbm, ⟨22, _⟩ => ⟨S1024x1, .i1⟩
  | .hbm, ⟨23, _⟩ => ⟨S_, .i1⟩
  | .hbm, ⟨24, _⟩ => ⟨S1024, .i1⟩
  | .hbm, ⟨25, _⟩ => ⟨S4096x1024, .f32⟩
  | .hbm, ⟨26, _⟩ => ⟨S4096x1024, .i1⟩
  | .hbm, ⟨27, _⟩ => ⟨S_, .f32⟩
  | .hbm, ⟨28, _⟩ => ⟨S4096x1024, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_v14 : Ref sig .tc := ⟨.hbm, 26, rfl⟩
abbrev main_call1_cst : Ref sig .tc := ⟨.hbm, 27, rfl⟩
abbrev main_call1_v15 : Ref sig .tc := ⟨.hbm, 28, rfl⟩
abbrev main_v1 : Ref sig .tc := ⟨.hbm, 29, rfl⟩

abbrev nD : Nat := 1
abbrev τ : Topo := Topo.v7x

variable {F : FTy → Type} [FloatOps F]
-- ==== Proof.KernelRun.lean ====
/-
  The idealized kernel's run with its result array kept. The generated frame proves that the two pallas_calls run to
  completion and leave the arguments unchanged; the same launch also knows the contents of every HBM buffer at the last
  segment boundary (`Gen.W2`), and here its post is read at the result array as well.
-/
module

public import proofs.«01_k».proof.Proof.Gen.KernelIdeal.Frame

@[expose] public section

noncomputable section

namespace Cert.KernelIdeal.Routed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The product kernel's result array after its eight grid points: the write-backs of the second pallas_call, entered
    from the contents that the first one leaves. -/
abbrev result (c : Dev nD) : Buf (Elt F) ((c : Thread nD τ).loc main_v0) :=
  (dat1 (V1 m ρ) c).arrAt 2 cfg1.N

set_option backward.isDefEq.respectTransparency.types false in
/-- The kernel terminates without fault, its result array at `result`, its arguments as launched. -/
theorem run : θ_run defs (onTc (τ := τ) (main (F := F))) ⟨m, fun _ => 0, ρ⟩ (fun r => ∀ c : Dev nD,
      r.2.mem ((c : Thread nD τ).loc main_v0) = result m ρ c
      ∧ r.2.mem ((c : Thread nD τ).loc main_arg0) = m ((c : Thread nD τ).loc main_arg0)
      ∧ r.2.mem ((c : Thread nD τ).loc main_arg1) = m ((c : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b))
            = StableHlo.held (c : Thread nD τ) (Pipeline.ucRefs τ sig) (W0 m ρ c)
          from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v0 (by decide))).trans (W2_arr m ρ c 2),
       (h c _ (mem_uc main_arg0 (by decide))).trans (W2_main_arg0 m ρ c),
       (h c _ (mem_uc main_arg1 (by decide))).trans (W2_main_arg1 m ρ c)⟩)

end Cert.KernelIdeal.Routed

end
-- ==== Proof.FirstMax.lean ====
/-
  The column a row of weights selects: the FIRST column at which the row takes its largest value. Pure mathematics over the
  extended reals, with no program in sight; both programs are shown to read this column.
-/
module

public import Idealize.ShloMosaic.PureOps.Ideal
public import Idealize.ShloMosaic.Lib.ValueIdxCore

@[expose] public section

noncomputable section

namespace Cert.Routing

open Idealize.ShloMosaic Idealize.ShloMosaic.ValueIdx

/-- Column `k` is the first one at which the row `w` is largest: no entry exceeds `w k`, and an entry equal to it stands at
    `k` or to the right of `k`. -/
def IsFirstMax (w : Fin 1024 → EReal) (k : Fin 1024) : Prop :=
  (∀ j, w j ≤ w k) ∧ ∀ j, w j = w k → k ≤ j

/-- Every row has such a column: a finite row attains its largest value, and among the columns attaining it one is least. -/
theorem exists_isFirstMax (w : Fin 1024 → EReal) : ∃ k, IsFirstMax w k := by
  obtain ⟨m, hm⟩ := Finite.exists_max w
  obtain ⟨k, hk, hmin⟩ := (Finset.univ.filter fun j => w j = w m).exists_min_image id
    ⟨m, Finset.mem_filter.2 ⟨Finset.mem_univ m, rfl⟩⟩
  have e : w k = w m := (Finset.mem_filter.1 hk).2
  exact ⟨k, fun j => e ▸ hm j, fun j hj => hmin j (Finset.mem_filter.2 ⟨Finset.mem_univ j, hj.trans e⟩)⟩

/-- A row has only one such column. -/
theorem IsFirstMax.unique {w : Fin 1024 → EReal} {k l : Fin 1024} (hk : IsFirstMax w k) (hl : IsFirstMax w l) : k = l := by
  have e : w k = w l := le_antisymm (hl.1 k) (hk.1 l)
  exact le_antisymm (hk.2 l e.symm) (hl.2 k e)

/-- The first column at which the row `w` is largest. -/
def firstMax (w : Fin 1024 → EReal) : Fin 1024 := Classical.choose (exists_isFirstMax w)

theorem firstMax_spec (w : Fin 1024 → EReal) : IsFirstMax w (firstMax w) := Classical.choose_spec (exists_isFirstMax w)

/-- A column with the defining property is the first maximum. -/
theorem IsFirstMax.eq {w : Fin 1024 → EReal} {k : Fin 1024} (hk : IsFirstMax w k) : k = firstMax w :=
  hk.unique (firstMax_spec w)

/-- WHAT BOTH PROGRAMS COMPUTE: output column `o` is the column of `x` which row `o` of the weights selects. -/
def routed (x : (⟨2, ![4096, 1024]⟩ : Shape).Idx → EReal) (w : (⟨2, ![1024, 1024]⟩ : Shape).Idx → EReal) :
    (⟨2, ![4096, 1024]⟩ : Shape).Idx → EReal :=
  fun i => x (ix2 (i 0) (firstMax fun k => w (ix2 (i 1) k)))

end Cert.Routing

end
-- ==== Proof.ArgFold.lean ====
/-
  The reference's two-operand reduction along a row, as mathematics: a left fold over (value, column) pairs that keeps the
  larger value and, between equal values, the smaller column. Started from (−∞, 0) and run over every column, in whatever
  order, it ends at the first column where the row is largest.
-/
module

public import proofs.«01_k».proof.ReferenceIdeal
public import Idealize.ShloMosaic.PureOps.Ideal.Laws
public import proofs.«01_k».proof.Proof.FirstMax

@[expose] public section

noncomputable section

namespace Cert.Routing

open Idealize.ShloMosaic Idealize.ShloMosaic.ValueIdx

/-- Column `k` as the 32-bit word the programs count columns by. -/
abbrev col (k : Fin 1024) : BitVec 32 := BitVec.ofNat 32 k.val

/-- A column's word, read signed, is the column. -/
theorem toInt_col (k : Fin 1024) : (col k).toInt = k.val := by
  have h := k.isLt
  have e : (BitVec.ofNat 32 k.val).toNat = k.val := by rw [BitVec.toNat_ofNat]; omega
  show (BitVec.ofNat 32 k.val).toInt = _
  rw [BitVec.toInt_eq_toNat_cond, e, if_pos (by omega)]

/-- Two columns' words are equal exactly when the columns are. -/
theorem col_inj {k l : Fin 1024} : col k = col l ↔ k = l :=
  ⟨fun h => Fin.ext (by have := congrArg BitVec.toInt h; rw [toInt_col, toInt_col] at this; exact_mod_cast this),
   fun h => h ▸ rfl⟩

/-- One step of the reduction: the pair so far survives when its value is larger, or equal with a smaller column;
    otherwise the new pair takes its place. -/
theorem step_eq (v u : EReal) (n k : Fin 1024) :
    ReferenceIdeal.reducer_argmax_f32_i32 (F := Ideal) (v, col n) (u, col k)
      = if u < v ∨ (v = u ∧ n < k) then (v, col n) else (u, col k) := by
  have hs : (col n).slt (col k) = decide (n < k) := by
    rw [BitVec.slt_eq_decide, toInt_col, toInt_col]; exact decide_eq_decide.2 Nat.cast_lt
  unfold ReferenceIdeal.reducer_argmax_f32_i32
  simp only [Ideal.cmpf_def, Ideal.cmp, IntOp.cmpi, IntOp.ori, IntOp.andi, Scalar.select, hs]
  rcases lt_trichotomy u v with h | h | h
  · have h' : ¬ v = u := fun e => absurd h (e ▸ lt_irrefl _)
    simp [h, h']
  · subst h
    by_cases hn : n < k <;> simp [hn]
  · have h1 : ¬ u < v := not_lt.2 h.le
    have h2 : ¬ v = u := fun e => absurd h (e ▸ lt_irrefl _)
    simp [h1, h2]

/-- The fold's invariant, over the columns `l` still to come and those (`S`) already seen: the pair's value bounds every
    value seen, its column is at most every seen column of that value, and the pair is either the row's own entry at its
    column or still the initial (−∞, 0). -/
theorem foldl_inv (w : Fin 1024 → EReal) (l : List (Fin 1024)) : ∀ (v : EReal) (n : Fin 1024) (S : Fin 1024 → Prop),
    (∀ k, S k → w k ≤ v ∧ (w k = v → n ≤ k)) → (w n = v ∨ (v = ⊥ ∧ n = 0)) →
    ∃ v' n', (l.map fun k => (w k, col k)).foldl (ReferenceIdeal.reducer_argmax_f32_i32 (F := Ideal)) (v, col n)
        = (v', col n')
      ∧ (∀ k, S k ∨ k ∈ l → w k ≤ v' ∧ (w k = v' → n' ≤ k)) ∧ (w n' = v' ∨ (v' = ⊥ ∧ n' = 0)) := by
  induction l with
  | nil => exact fun v n S hS hn => ⟨v, n, rfl, fun k hk => hS k (hk.resolve_right (by simp)), hn⟩
  | cons a l ih =>
    intro v n S hS hn
    rw [List.map_cons, List.foldl_cons, step_eq]
    have key : ∀ v' n', (∀ k, S k ∨ k = a → w k ≤ v' ∧ (w k = v' → n' ≤ k)) → (w n' = v' ∨ (v' = ⊥ ∧ n' = 0)) →
        ∃ v'' n'', (l.map fun k => (w k, col k)).foldl (ReferenceIdeal.reducer_argmax_f32_i32 (F := Ideal)) (v', col n')
            = (v'', col n'')
          ∧ (∀ k, S k ∨ k ∈ a :: l → w k ≤ v'' ∧ (w k = v'' → n'' ≤ k)) ∧ (w n'' = v'' ∨ (v'' = ⊥ ∧ n'' = 0)) := by
      intro v' n' h1 h2
      obtain ⟨v'', n'', e, hall, hin⟩ := ih v' n' (fun k => S k ∨ k = a) h1 h2
      refine ⟨v'', n'', e, fun k hk => hall k ?_, hin⟩
      rcases hk with hk | hk
      · exact .inl (.inl hk)
      · rcases List.mem_cons.1 hk with hk | hk
        · exact .inl (.inr hk)
        · exact .inr hk
    by_cases hc : w a < v ∨ (v = w a ∧ n < a)
    · rw [if_pos hc]
      refine key v n (fun k hk => ?_) hn
      rcases hk with hk | rfl
      · exact hS k hk
      · rcases hc with hc | ⟨hc, hc'⟩
        · exact ⟨hc.le, fun e => absurd hc (e ▸ lt_irrefl _)⟩
        · exact ⟨hc.ge, fun _ => hc'.le⟩
    · rw [if_neg hc]
      have h1 : v ≤ w a := not_lt.1 fun h => hc (.inl h)
      refine key (w a) a (fun k hk => ?_) (.inl rfl)
      rcases hk with hk | rfl
      · refine ⟨(hS k hk).1.trans h1, fun e => ?_⟩
        have ev : v = w a := le_antisymm h1 (e ▸ (hS k hk).1)
        exact (not_lt.1 fun h => hc (.inr ⟨ev, h⟩)).trans ((hS k hk).2 (e.trans ev.symm))
      · exact ⟨le_rfl, fun _ => le_rfl⟩

/-- Run over a list holding every column, from (−∞, 0), the fold's column is the first maximum of the row. -/
theorem foldl_firstMax (w : Fin 1024 → EReal) (l : List (Fin 1024)) (hl : ∀ k, k ∈ l) :
    ((l.map fun k => (w k, col k)).foldl (ReferenceIdeal.reducer_argmax_f32_i32 (F := Ideal)) (⊥, 0#32)).2
      = col (firstMax w) := by
  obtain ⟨v, n, e, hall, hin⟩ := foldl_inv w l ⊥ 0 (fun _ => False) (fun k hk => hk.elim) (.inr ⟨rfl, rfl⟩)
  have hv : w n = v := by
    rcases hin with h | ⟨rfl, rfl⟩
    · exact h
    · exact le_bot_iff.1 (hall 0 (.inr (hl 0))).1
  have hn : n = firstMax w :=
    IsFirstMax.eq ⟨fun j => hv ▸ (hall j (.inr (hl j))).1, fun j hj => (hall j (.inr (hl j))).2 (hj.trans hv)⟩
  rw [← hn]
  exact congrArg Prod.snd e

end Cert.Routing

end
-- ==== Proof.KernelBlock.lean ====
/-
  What one grid point of each pallas_call computes, at the extended reals. The first turns the weights into a one-hot matrix:
  row `o` is 1 at the row's first maximum and 0 elsewhere. The second multiplies a block of rows of `x` with that matrix
  transposed, and such a product only copies: every other term of the sum is something times zero.
-/
module

public import proofs.«01_k».proof.Proof.Gen.KernelIdeal.Skeleton
public import proofs.«01_k».proof.Proof.ArgFold
public import Idealize.ShloMosaic.PureOps.Reduce
public import Idealize.ShloMosaic.PureOps.Ideal.Laws
public import Idealize.ShloMosaic.Lib.Pipeline.Value
public import Idealize.ShloMosaic.Lib.Pointwise

@[expose] public section

noncomputable section

namespace Cert.KernelIdeal.Routed

open Cert.KernelIdeal Cert.KernelIdeal.Gen Cert.Routing
open Idealize.ShloMosaic

/-! ## Two folds over a row -/

/-- The fold of `max` from −∞ over a row is the row's entry at its first maximum. -/
theorem fold_max_eq (w : Fin 1024 → EReal) : (Finset.univ : Finset (Fin 1024)).fold max ⊥ w = w (firstMax w) := by
  refine le_antisymm ?_ ?_
  · exact (Finset.fold_max_le _).2 ⟨bot_le, fun k _ => (firstMax_spec w).1 k⟩
  · exact (Finset.le_fold_max _).2 (.inr ⟨firstMax w, Finset.mem_univ _, le_rfl⟩)

/-- The signed minimum of two words, read as an integer. -/
theorem toInt_minsi (a b : BitVec 32) : (IntOp.minsi a b).toInt = min a.toInt b.toInt := by
  unfold IntOp.minsi
  rw [BitVec.slt_eq_decide]
  by_cases h : a.toInt < b.toInt
  · simp [h, h.le]
  · simp [h, not_lt.1 h]

/-- The fold of the signed minimum, read as an integer, is the fold of the minimum. -/
theorem toInt_fold_minsi (f : Fin 1024 → BitVec 32) (b : BitVec 32) (S : Finset (Fin 1024)) :
    (S.fold IKind.minsi.op b f).toInt = S.fold min b.toInt fun k => (f k).toInt := by
  induction S using Finset.cons_induction with
  | empty => simp
  | cons a S ha ih =>
    rw [Finset.fold_cons, Finset.fold_cons, ← ih]
    exact toInt_minsi _ _

/-- The least of the columns holding the row's largest value, a word past every column standing for the others, is the
    first maximum. -/
theorem fold_minsi_eq (w : Fin 1024 → EReal) :
    (Finset.univ : Finset (Fin 1024)).fold IKind.minsi.op 2147483647#32
        (fun k => if w k = w (firstMax w) then col k else 1073741824#32)
      = col (firstMax w) := by
  have hlt := (firstMax w).isLt
  refine BitVec.eq_of_toInt_eq ?_
  rw [toInt_fold_minsi, toInt_col]
  refine le_antisymm ?_ ?_
  · refine (Finset.fold_min_le _).2 (.inr ⟨firstMax w, Finset.mem_univ _, ?_⟩)
    rw [if_pos rfl, toInt_col]
  · refine (Finset.le_fold_min _).2 ⟨?_, fun k _ => ?_⟩
    · show ((firstMax w).val : Int) ≤ 2147483647
      omega
    · by_cases h : w k = w (firstMax w)
      · rw [if_pos h, toInt_col]
        exact_mod_cast (firstMax_spec w).2 k h
      · rw [if_neg h]
        show ((firstMax w).val : Int) ≤ 1073741824
        omega

/-! ## The one-hot matrix -/

/-- Row `j`, column `k` of the weights, as the reductions number it. -/
theorem lift_row (j : S1024.Idx) (k : Fin 1024) : reduces_S1024x1024_S1024.lift j k = ValueIdx.ix2 (j 0) k := by
  funext a
  match a with
  | ⟨0, _⟩ => rfl
  | ⟨1, _⟩ => rfl

/-- The word −∞ of the row maximum reads as the least extended real. -/
theorem negInf_eq : Ideal.ofBits .f32 0xFF800000#32 = (⊥ : EReal) := by
  simp [Ideal.ofBits, Ideal.ieee]

/-- Whether two columns' words are equal, as the kernel turns it into a number: 1 or 0. -/
theorem number_eq (k m : Fin 1024) :
    (FloatOps.sitofp .f32 (BitVec.setWidth 32 (IntOp.cmpi .eq (col k) (col m))) : Ideal .f32)
      = if k = m then (1 : EReal) else 0 := by
  by_cases h : k = m
  · subst h
    rw [if_pos rfl, show IntOp.cmpi .eq (col k) (col k) = 1#1 from congrArg BitVec.ofBool (beq_self_eq_true _)]
    show (((1 : Int) : ℝ) : EReal) = 1
    norm_num
  · have hne : col k ≠ col m := fun e => h (col_inj.1 e)
    rw [if_neg h, show IntOp.cmpi .eq (col k) (col m) = 0#1 from congrArg BitVec.ofBool (beq_eq_false_iff_ne.2 hne)]
    show (((0 : Int) : ℝ) : EReal) = 0
    norm_num

/-- THE ONE-HOT MATRIX: entry (o, k) is 1 when `k` is the first maximum of row `o` of the weights, and 0 otherwise. -/
theorem onehot_apply (w : Vec Ideal S1024x1024 .f32) (o k : Fin 1024) :
    k0_pay1 (F := Ideal) w (ValueIdx.ix2 o k)
      = if k = firstMax (fun j => w (ValueIdx.ix2 o j)) then (1 : EReal) else 0 := by
  refine Eq.trans ?_ (number_eq k (firstMax fun j => w (ValueIdx.ix2 o j)))
  rw [← fold_minsi_eq (fun j => w (ValueIdx.ix2 o j)), ← fold_max_eq (fun j => w (ValueIdx.ix2 o j)), ← negInf_eq]
  unfold k0_pay1
  pointwise
  rfl

/-! ## The product with it -/

/-- THE PRODUCT: with a matrix whose row `o` is 1 at column `k o` and 0 elsewhere, entry (t, o) is the block's entry
    (t, k o). -/
theorem product_apply (x : Vec Ideal S512x1024 .f32) (h : Vec Ideal S1024x1024 .f32) (k : Fin 1024 → Fin 1024)
    (hh : ∀ o c : Fin 1024, h (ValueIdx.ix2 o c) = if c = k o then (1 : EReal) else 0) (i : S512x1024.Idx) :
    k1_pay1 (F := Ideal) x h i = x (ValueIdx.ix2 (i 0) (k (i 1))) := by
  have sum : k1_pay1 (F := Ideal) x h i
      = ∑ c : Fin 1024, (x (ValueIdx.ix2 (i 0) c) * h (ValueIdx.ix2 (i 1) c) : EReal) := by
    unfold k1_pay1
    pointwise
    rfl
  refine sum.trans ((Finset.sum_eq_single (k (i 1)) (fun c _ hc => ?_) fun hn => absurd (Finset.mem_univ _) hn).trans ?_)
  · refine Eq.trans (congrArg (fun z : EReal => (x (ValueIdx.ix2 (i 0) c) : EReal) * z) ((hh (i 1) c).trans (if_neg hc))) ?_
    exact mul_zero _
  · refine Eq.trans (congrArg (fun z : EReal => (x (ValueIdx.ix2 (i 0) (k (i 1))) : EReal) * z) ((hh (i 1) _).trans (if_pos rfl))) ?_
    exact mul_one _

end Cert.KernelIdeal.Routed

end
-- ==== Proof.KernelValue.lean ====
/-
  What the kernel's arrays hold, at the extended reals. The first pallas_call writes the whole one-hot matrix at its one grid
  point. The second writes, at each of its eight grid points, the product of 512 rows of `x` with it; the eight blocks of rows
  make up the result.
-/
module

public import proofs.«01_k».proof.Proof.KernelRun
public import proofs.«01_k».proof.Proof.KernelBlock
public import Idealize.ShloMosaic.Lib.Pipeline.ValueKit

@[expose] public section

noncomputable section

namespace Cert.KernelIdeal.Routed

open Cert.KernelIdeal Cert.KernelIdeal.Gen Cert.Routing
open Idealize.ShloMosaic Idealize.ShloMosaic.TcCoe
open Idealize.ShloMosaic.Pipeline (Dat Cfg Window)

variable (m : (ℓ : Loc nD τ sig) → Buf (Elt Ideal) ℓ) (ρ : Dev nD → PrngReg)

/-- The first call reads the whole weights. -/
theorem idx0_0 : ∀ t, win0_0.index t = ![0, 0] := by decide +kernel
/-- The first call writes the whole one-hot matrix. -/
theorem idx0_1 : ∀ t, win0_1.index t = ![0, 0] := by decide +kernel
/-- Point `t` of the second call reads block `t` of the rows of `x`. -/
theorem idx1_0 : ∀ t, win1_0.index t = ![t.val, 0] := by decide +kernel
/-- Every point of the second call reads the whole one-hot matrix. -/
theorem idx1_1 : ∀ t, win1_1.index t = ![0, 0] := by decide +kernel
/-- Point `t` of the second call writes block `t` of the rows of the result. -/
theorem idx1_2 : ∀ t, win1_2.index t = ![t.val, 0] := by decide +kernel

/-- THE FIRST CALL'S ARRAY: the one-hot matrix of the weights. -/
theorem onehot_array (c : Dev nD) (o k : Fin 1024) :
    V1 m ρ c main_call0_v0 (ValueIdx.ix2 o k)
      = if k = firstMax (fun j => m ((c : Thread nD τ).loc main_arg1) (ValueIdx.ix2 o j)) then (1 : EReal) else 0 := by
  have h : (dat0 (V0 m ρ) c).arrAt 1 cfg0.N = k0_pay1 (F := Ideal) (m ((c : Thread nD τ).loc main_arg1)) := by
    refine (dat0 (V0 m ρ) c).arrAt_eq_of_covers 1 _ (by decide +kernel) fun t hf y => ?_
    blk_simp
    rw [after0_1]
    frame_out
    have hb : iblk0 (V0 m ρ) c 0 t = m ((c : Thread nD τ).loc main_arg1) := by
      funext z
      blk_ext [iblk0, idx0_0 t]
    have hy : ((View.whole main_call0_v0).slice (win0_1.rect t)).emb y = y := by
      blk_ext [idx0_1 t]
    exact (congrArg (fun v => k0_pay1 (F := Ideal) v y) hb).trans (congrArg _ hy).symm
  refine (congrFun ((W1_arr m ρ c 1).trans h) (ValueIdx.ix2 o k)).trans ?_
  exact onehot_apply _ o k

/-- THE RESULT: every row of `x`, routed by the weights. -/
theorem value (c : Dev nD) :
    result m ρ c = routed (m ((c : Thread nD τ).loc main_arg0)) (m ((c : Thread nD τ).loc main_arg1)) := by
  refine (dat1 (V1 m ρ) c).arrAt_eq_of_covers 2 _ (by decide +kernel) fun t hf y => ?_
  blk_simp
  rw [after1_2]
  frame_out
  have hx (j : Fin 1024) : iblk1 (V1 m ρ) c 0 t (ValueIdx.ix2 (y 0) j)
      = m ((c : Thread nD τ).loc main_arg0) (ValueIdx.ix2 ((((View.whole main_v0).slice (win1_2.rect t)).emb y) 0) j) := by
    refine Eq.trans ?_ (congrFun (W1_args m ρ c main_arg0 (by decide)) _)
    blk_ext [iblk1, idx1_0 t]
    show t.val * 512 + (y 0).val = ((((View.whole main_v0).slice (win1_2.rect t)).emb y) 0).val
    blk_simp [idx1_2 t]
  have hh (o k : Fin 1024) : iblk1 (V1 m ρ) c 1 t (ValueIdx.ix2 o k)
      = if k = firstMax (fun j => m ((c : Thread nD τ).loc main_arg1) (ValueIdx.ix2 o j)) then (1 : EReal) else 0 := by
    refine Eq.trans ?_ (onehot_array m ρ c o k)
    blk_ext [iblk1, idx1_1 t]
  have hc : (((View.whole main_v0).slice (win1_2.rect t)).emb y) 1 = y 1 := by
    apply Fin.ext
    blk_simp [idx1_2 t]
  refine (product_apply _ _ _ hh y).trans ((hx _).trans ?_)
  unfold routed
  rw [hc]

end Cert.KernelIdeal.Routed

end
-- ==== Proof.RefRun.lean ====
/-
  The reference's run: an argmax along each row of the weights, then a take of the selected columns of `x`. Its result array is
  written here as one term over the two arguments, the operations named in the order in which the program runs them.
-/
module

public import proofs.«01_k».proof.Proof.Gen.ReferenceIdeal
public import Idealize.ShloMosaic.Lib.Claim

@[expose] public section

noncomputable section

namespace Cert.ReferenceIdeal.Routed

open Cert.ReferenceIdeal Cert.ReferenceIdeal.Gen
open Idealize.ShloMosaic Idealize.ShloMosaic.TcCoe Idealize.SL.Sem

variable {F : FTy → Type} [FloatOps F]

/-- The argmax's reduction: for each row of the weights, the (value, column) pair it ends with. -/
def argPair (w : FVec F S1024x1024 .f32) (j : S1024.Idx) : F .f32 × BitVec 32 :=
  Host.argReduce reducer_argmax_f32_i32 w (iotaInDim S1024x1024 32 1) (constant S_ .f32 0xFF800000#32)
    (constantI S_ 32 0#32) reducesTo_S1024x1024_S1024_d1 h_S_ j

/-- The argmax: for each row of the weights the column word of that pair. -/
abbrev selected (w : FVec F S1024x1024 .f32) : IVec S1024 32 := fun j => (argPair w j).2

/-- The take's index after its wrap of negative values, as a column of start indices. -/
abbrev wrapped (s : IVec S1024 32) : IVec S1024x1 32 :=
  broadcastInDim S1024x1 ![0] bcast_S1024_S1024x1_0
    (select (cmpi .slt s (broadcastInDim S1024 ![] bcast_S_S1024 (constantI S_ 32 0#32)))
      (addi s (broadcastInDim S1024 ![] bcast_S_S1024 (constantI S_ 32 1024#32))) s)

/-- The take's bounds check: one bit per selected column, set when the index lies in [0, 1023]. -/
abbrev inBounds (s : IVec S1024 32) : IVec S1024 1 :=
  Host.reduce IntOp.andi
    (andi (cmpi .sge (wrapped s) (broadcastInDim S1024x1 ![] bcast_S_S1024x1 (constantI S_ 32 0#32)))
      (cmpi .sle (wrapped s) (broadcastInDim S1024x1 ![0, 1] bcast_S1x1_S1024x1_0_1
        (broadcastInDim S1x1 ![1] bcast_S1_S1x1_1 (constantI S1 32 1023#32)))))
    (constantI S_ 1 1#1) reducesTo_S1024x1_S1024_d1 h_S_

/-- The take: the gathered columns where the index is in bounds, a NaN pattern elsewhere. -/
abbrev taken (x : FVec F S4096x1024 .f32) (s : IVec S1024 32) : FVec F S4096x1024 .f32 :=
  select (broadcastInDim S4096x1024 ![1] bcast_S1024_S4096x1024_1 (inBounds s))
    (Host.gather gather_S4096x1024_S1024x1_S4096x1024_0_1_n_n_1_1_40961 x (wrapped s))
    (broadcastInDim S4096x1024 ![] bcast_S_S4096x1024 (constant S_ .f32 0x7FC00000#32))

variable (m : (ℓ : Loc nD τ sig) → Buf (Elt F) ℓ) (ρ : Dev nD → PrngReg)

/-- The reference terminates without fault, its result the take of `x` at the argmax of the weights, its arguments as
    launched. -/
theorem run : θ_run defs (onTc (τ := τ) (main (F := F))) ⟨m, fun _ => 0, ρ⟩ (fun r => ∀ c : Dev nD,
      r.2.mem ((c.tc : Thread nD τ).loc main_v1)
        = taken (F := F) (m ((c.tc : Thread nD τ).loc main_arg0)) (selected (F := F) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  simp only [StableHlo.TRef.ofBuf_toBuf]
  rfl

end Cert.ReferenceIdeal.Routed

end
-- ==== Proof.RefValue.lean ====
/-
  What the reference computes, at the extended reals: the argmax of a row is the row's first maximum, an index in [0, 1023], so
  that the take neither wraps nor replaces it and reads that column of `x`.
-/
module

public import proofs.«01_k».proof.Proof.RefRun
public import proofs.«01_k».proof.Proof.ArgFold
public import Idealize.ShloMosaic.PureOps.Reduce
public import Idealize.ShloMosaic.Lib.Pipeline.Value

@[expose] public section

noncomputable section

namespace Cert.ReferenceIdeal.Routed

open Cert.ReferenceIdeal Cert.ReferenceIdeal.Gen Cert.Routing
open Idealize.ShloMosaic Idealize.ShloMosaic.ValueIdx

/-- The same reduced axis, with the fact that names the source index of a row and a column. -/
theorem reduces_row : S1024x1024.Reduces [1] S1024 := by decide

/-- Row `j`, column `k` of the weights, as the reduction numbers it. -/
theorem lift_row (j : S1024.Idx) (k : Fin 1024) : reduces_row.lift j k = ix2 (j 0) k := by
  funext a
  match a with
  | ⟨0, _⟩ => rfl
  | ⟨1, _⟩ => rfl

/-- The pairs that a two-operand reduction over the last axis of a matrix folds, at row `j`: some list of all its columns,
    each with its row's two entries. -/
theorem exists_fiber {R C : Nat} {α β : Type} (x : (⟨2, ![R, C]⟩ : Shape).Idx → α) (y : (⟨2, ![R, C]⟩ : Shape).Idx → β)
    (h' : (⟨2, ![R, C]⟩ : Shape).ReducesTo [1] ⟨1, ![R]⟩) (h : (⟨2, ![R, C]⟩ : Shape).Reduces [1] ⟨1, ![R]⟩)
    (j : (⟨1, ![R]⟩ : Shape).Idx) :
    ∃ l : List (Fin C), (∀ k, k ∈ l) ∧ Host.argReduceFiber x y h' j = l.map fun k => (x (h.lift j k), y (h.lift j k)) := by
  refine ⟨((List.finRange (⟨2, ![R, C]⟩ : Shape).numel).filter fun n =>
      h'.drop ((⟨2, ![R, C]⟩ : Shape).rowMajor.symm n) = j).map
        fun n => ((⟨2, ![R, C]⟩ : Shape).rowMajor.symm n 1 : Fin C), fun k => ?_, ?_⟩
  · refine List.mem_map.2 ⟨(⟨2, ![R, C]⟩ : Shape).rowMajor (h.lift j k), List.mem_filter.2 ⟨List.mem_finRange _, ?_⟩, ?_⟩
    · refine decide_eq_true ?_
      rw [Equiv.symm_apply_apply]
      exact h.drop_lift j k
    · rw [Equiv.symm_apply_apply]
      refine Fin.ext ?_
      show h.liftVal j k.val 1 = k.val
      simp [Shape.Reduces.liftVal]
  · unfold Host.argReduceFiber
    refine Eq.trans ?_ List.map_map.symm
    refine List.map_congr_left fun n hn => ?_
    have hd : h.drop ((⟨2, ![R, C]⟩ : Shape).rowMajor.symm n) = j := of_decide_eq_true (List.mem_filter.1 hn).2
    have e : h.lift j ((⟨2, ![R, C]⟩ : Shape).rowMajor.symm n 1) = (⟨2, ![R, C]⟩ : Shape).rowMajor.symm n := by
      rw [← hd]; exact h.lift_drop _
    exact Prod.ext (congrArg x e.symm) (congrArg y e.symm)

/-- The reduction's initial value is −∞. -/
theorem init_eq : Ideal.ofBits .f32 0xFF800000#32 = ⊥ := by simp [Ideal.ofBits, Ideal.ieee]

/-- The reduction at row `j` is the fold, over some list of all the columns, of the row's entries with their columns. -/
theorem exists_fold (w : FVec Ideal S1024x1024 .f32) (j : S1024.Idx) :
    ∃ l : List (Fin 1024), (∀ k, k ∈ l)
      ∧ argPair (F := Ideal) w j
        = (l.map fun k => (w (ix2 (j 0) k), col k)).foldl (reducer_argmax_f32_i32 (F := Ideal)) (⊥, 0#32) := by
  obtain ⟨l, hl, e⟩ := exists_fiber w (iotaInDim S1024x1024 32 1) reducesTo_S1024x1024_S1024_d1 reduces_row j
  refine ⟨l, hl, ?_⟩
  unfold argPair
  rw [Ideal.argReduce_eq_reduce2, Host.reduce2_eq_foldl_fiber, e]
  refine congrArg₂ (List.foldl _) (Prod.ext init_eq rfl) (List.map_congr_left fun k _ => ?_)
  exact congrArg (fun i : S1024x1024.Idx => (w i, iotaInDim S1024x1024 32 1 i)) (lift_row j k)

/-- The selected columns, all rows at once: the second components of the reductions. -/
theorem selected_def (w : FVec Ideal S1024x1024 .f32) : selected (F := Ideal) w = fun j => (argPair (F := Ideal) w j).2 := rfl

/-- THE ARGMAX: row `j`'s selected column is its first maximum. -/
theorem selected_eq (w : FVec Ideal S1024x1024 .f32) :
    selected (F := Ideal) w = fun j => col (firstMax fun k => w (ix2 (j 0) k)) := by
  rw [selected_def]
  funext j
  obtain ⟨l, hl, e⟩ := exists_fold w j
  exact (congrArg Prod.snd e).trans (foldl_firstMax _ l hl)

/-- The gather's start index for output column `i 1`. -/
abbrev startIdx (i : S4096x1024.Idx) : S1024x1.Idx := ix2 (i 1) 0

/-- The gather at `(t, o)`: row `t` of `x` at the column its start index `o` names, read signed and clamped into
    [0, 1023]. -/
theorem gather_apply {α : Type} (x : S4096x1024.Idx → α) (idx : IVec S1024x1 32) (i : S4096x1024.Idx) :
    Host.gather gather_S4096x1024_S1024x1_S4096x1024_0_1_n_n_1_1_40961 x idx i
      = x (ix2 (i 0) ⟨min (idx (startIdx i)).toInt.toNat 1023, by omega⟩) := by
  unfold Host.gather
  congr 1
  funext a
  refine Fin.ext ?_
  let d := gather_S4096x1024_S1024x1_S4096x1024_0_1_n_n_1_1_40961
  show d.start i idx a + d.batchCoord i a + d.offCoord i a = _
  have ha : a = 0 ∨ a = 1 := by
    match a with
    | ⟨0, _⟩ => exact .inl rfl
    | ⟨1, _⟩ => exact .inr rfl
  rcases ha with rfl | rfl
  · have h0 : (0 : Fin 2) ∈ d.sKept := by decide
    rw [d.batchCoord_eq_zero _ _ List.not_mem_nil]
    unfold GatherDims.start GatherDims.offCoord
    rw [dif_neg (show (0 : Fin 2) ∉ d.startIndexMap by decide), dif_pos h0, Nat.add_zero, Nat.zero_add]
    rfl
  · have hsi : d.siIdx i ⟨List.idxOf (1 : Fin 2) d.startIndexMap,
        List.idxOf_lt_length_iff.2 (List.mem_singleton.mpr rfl)⟩ = startIdx i := by
      funext b; refine Fin.ext ?_
      match b with
      | ⟨0, _⟩ => rfl
      | ⟨1, _⟩ => rfl
    rw [d.batchCoord_eq_zero _ _ List.not_mem_nil, d.offCoord_eq_zero _ _
      (fun h => ((d.mem_sKept _).mp h).1 (List.mem_singleton.mpr rfl))]
    unfold GatherDims.start
    rw [dif_pos (show (1 : Fin 2) ∈ d.startIndexMap from List.mem_singleton.mpr rfl)]
    show min (idx (d.siIdx i _)).toInt.toNat (1024 - 1) = _
    rw [hsi]

/-- The wrap leaves a column word alone. -/
theorem wrapped_apply (s : IVec S1024 32) (k : S1024.Idx → Fin 1024) (hs : ∀ j, s j = col (k j)) (p : S1024x1.Idx) :
    wrapped s p = col (k (ix1 (p 0))) := by
  have e : wrapped s p
      = Scalar.select (IntOp.cmpi .slt (s (ix1 (p 0))) 0#32) (IntOp.addi (s (ix1 (p 0))) 1024#32) (s (ix1 (p 0))) := by
    refine broadcastInDim_apply ![0] bcast_S1024_S1024x1_0 _ p (ix1 (p 0)) fun a => ?_
    match a with
    | ⟨0, _⟩ => rfl
  have hc : ∀ n : Fin 1024, IntOp.cmpi .slt (col n) 0#32 = 0#1 := fun n => by
    have h : (col n).slt 0#32 = false := by
      rw [BitVec.slt_eq_decide, toInt_col]
      exact decide_eq_false (by show ¬ ((n.val : Int) < 0); omega)
    unfold IntOp.cmpi; rw [h]; rfl
  rw [e, hs, hc, select_zero]

/-- The bounds check of column words passes everywhere. -/
theorem inBounds_apply (s : IVec S1024 32) (k : S1024.Idx → Fin 1024) (hs : ∀ j, s j = col (k j)) (j : S1024.Idx) :
    inBounds s j = 1#1 := by
  have hbit : ∀ n : Fin 1024, IntOp.andi (IntOp.cmpi .sge (col n) 0#32) (IntOp.cmpi .sle (col n) 1023#32) = 1#1 := fun n => by
    have h0 : (0#32).sle (col n) = true := by
      rw [BitVec.sle_eq_decide, toInt_col]
      exact decide_eq_true (by show (0 : Int) ≤ n.val; omega)
    have h1 : (col n).sle 1023#32 = true := by
      have hn := n.isLt
      rw [BitVec.sle_eq_decide, toInt_col]
      exact decide_eq_true (by show (n.val : Int) ≤ 1023; omega)
    have e0 : IntOp.cmpi .sge (col n) 0#32 = 1#1 := congrArg BitVec.ofBool h0
    have e1 : IntOp.cmpi .sle (col n) 1023#32 = 1#1 := congrArg BitVec.ofBool h1
    rw [e0, e1]; rfl
  have hone : (andi (cmpi .sge (wrapped s) (broadcastInDim S1024x1 ![] bcast_S_S1024x1 (constantI S_ 32 0#32)))
      (cmpi .sle (wrapped s) (broadcastInDim S1024x1 ![0, 1] bcast_S1x1_S1024x1_0_1
        (broadcastInDim S1x1 ![1] bcast_S1_S1x1_1 (constantI S1 32 1023#32))))) = fun _ => 1#1 := by
    funext p
    show IntOp.andi (IntOp.cmpi .sge (wrapped s p) 0#32) (IntOp.cmpi .sle (wrapped s p) 1023#32) = 1#1
    rw [wrapped_apply s k hs, hbit]
  show Host.reduce IntOp.andi _ (constantI S_ 1 1#1) reducesTo_S1024x1_S1024_d1 h_S_ j = 1#1
  rw [hone, Host.reduce_eq_fold]
  induction (Finset.univ.filter fun i => reducesTo_S1024x1_S1024_d1.drop i = j) using Finset.cons_induction with
  | empty => rfl
  | cons a S ha ih => rw [Finset.fold_cons, ih]; rfl

/-- THE TAKE: at column words it reads the columns they name. -/
theorem taken_apply (x : FVec Ideal S4096x1024 .f32) (s : IVec S1024 32) (k : S1024.Idx → Fin 1024)
    (hs : ∀ j, s j = col (k j)) (i : S4096x1024.Idx) :
    taken (F := Ideal) x s i = x (ix2 (i 0) (k (ix1 (i 1)))) := by
  have e : taken (F := Ideal) x s i
      = Scalar.select (inBounds s (ix1 (i 1)))
          (Host.gather gather_S4096x1024_S1024x1_S4096x1024_0_1_n_n_1_1_40961 x (wrapped s) i)
          (Ideal.ofBits .f32 0x7FC00000#32) := by
    have eb : broadcastInDim S4096x1024 ![1] bcast_S1024_S4096x1024_1 (inBounds s) i = inBounds s (ix1 (i 1)) := by
      refine broadcastInDim_apply ![1] bcast_S1024_S4096x1024_1 _ i (ix1 (i 1)) fun a => ?_
      match a with
      | ⟨0, _⟩ => rfl
    exact congrArg (fun b => Scalar.select b _ _) eb
  rw [e, inBounds_apply s k hs, select_one, gather_apply]
  refine congrArg (fun c => x (ix2 (i 0) c)) (Fin.ext ?_)
  show min (wrapped s (startIdx i)).toInt.toNat 1023 = (k (ix1 (i 1))).val
  have hn := (k (ix1 (i 1))).isLt
  rw [wrapped_apply s k hs, toInt_col]
  show min (k (ix1 (i 1))).val 1023 = (k (ix1 (i 1))).val
  omega

/-- WHAT THE REFERENCE COMPUTES: output column `o` is the column of `x` at the first maximum of row `o` of the weights. -/
theorem value (x : FVec Ideal S4096x1024 .f32) (w : FVec Ideal S1024x1024 .f32) :
    taken (F := Ideal) x (selected (F := Ideal) w) = routed x w := by
  funext i
  exact taken_apply x _ (fun j => firstMax fun k => w (ix2 (j 0) k)) (congrFun (selected_eq w)) i

end Cert.ReferenceIdeal.Routed

end
-- ==== Proof.lean ====
/-
  The certificate: the kernel and its idealization run to completion and leave their arguments alone, so does the reference;
  the idealization replaces nothing; and at the extended reals the kernel's result array is the reference's, at every input.
  Both are `Cert.Routing.routed`: the columns of `x` picked out by the first maximum of each row of the weights.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelRun
public import proofs.«01_k».proof.Proof.KernelValue
public import proofs.«01_k».proof.Proof.RefRun
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ, fun m ρ _ => ?_, trivial, ?_⟩
  · exact (θ_run Cert.ReferenceIdeal.defs _ _).mono
      (fun r h => ⟨fun c => ⟨(h c).2.1, (h c).2.2⟩, Idealize.ShloMosaic.sem_eq_zero_of_no_sems (by decide) r.2⟩)
      (Cert.ReferenceIdeal.Routed.run (F := Ideal) m ρ)
  · intro m ρ m' ρ' _ hagree
    refine ⟨fun c => Cert.Routing.routed (m (c.tc.loc Cert.KernelIdeal.main_arg0)) (m (c.tc.loc Cert.KernelIdeal.main_arg1)),
      ?_, ?_⟩
    · exact (θ_run Cert.KernelIdeal.defs _ _).mono
        (fun _ h c => ⟨(h c).1.trans (Cert.KernelIdeal.Routed.value m ρ c), (h c).2⟩)
        (Cert.KernelIdeal.Routed.run (F := Ideal) m ρ)
    · refine (θ_run Cert.ReferenceIdeal.defs _ _).mono (fun _ h c => ⟨(h c).1.trans ?_, (h c).2⟩)
        (Cert.ReferenceIdeal.Routed.run (F := Ideal) m' ρ')
      refine (Cert.ReferenceIdeal.Routed.value _ _).trans ?_
      rw [(hagree c).1, (hagree c).2]⟩

end Cert.Proof

end
